-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x8 : Shape := ⟨3, ![16, 1024, 8]⟩
abbrev S1x1x256 : Shape := ⟨3, ![1, 1, 256]⟩
abbrev S8x256 : Shape := ⟨2, ![8, 256]⟩
abbrev S256 : Shape := ⟨1, ![256]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S_ : Shape := ⟨0, ![]⟩
abbrev S256x512 : Shape := ⟨2, ![256, 512]⟩
abbrev S512x1 : Shape := ⟨2, ![512, 1]⟩

class Facts : Prop where
  bcast_S_S1x1x256 : S_.BroadcastsInDim S1x1x256 (![] : Fin 0 → Fin S1x1x256.rank)
  slices_S256x1024_S256x512_0_0 : S256x1024.Slices ![0, 0] S256x512
  bcast_S_S256x512 : S_.BroadcastsInDim S256x512 (![] : Fin 0 → Fin S256x512.rank)
  slices_S512x4_S512x1_0_3 : S512x4.Slices ![0, 3] S512x1
  shapeCasts_S512x1_S512 : S512x1.ShapeCasts S512
  bcast_S_S512 : S_.BroadcastsInDim S512 (![] : Fin 0 → Fin S512.rank)
  bcast_S_S512x48 : S_.BroadcastsInDim S512x48 (![] : Fin 0 → Fin S512x48.rank)
  bcast_S_S16x512 : S_.BroadcastsInDim S16x512 (![] : Fin 0 → Fin S16x512.rank)

variable [Facts]

def fn_part1 {F : FTy → Type} [FloatOps F] (main_arg9 : FVec F S512 .f32) (main_v2 : IVec S1x1x256 1) (main_v6 : IVec S256x512 1) (main_v11 : IVec S512 1) (main_v14 : IVec S512 1) (main_v17 : IVec S512x48 1) (main_v18 : FVec F S16x512 .f32) : IVec S1x1x256 1 × IVec S256x512 1 × IVec S512 1 × IVec S512 1 × IVec S512x48 1 × IVec S16x512 1 × IVec S512 1 :=
  let main_cst_4 : FVec F S_ .f32 := constant S_ .f32 0x7F800000#32
  let main_v19 : FVec F S16x512 .f32 := broadcastInDim S16x512 ![] bcast_S_S16x512 main_cst_4
  let main_v20 : IVec S16x512 1 := cmpf .olt main_v18 main_v19
  let main_v21 : FVec F S512 .f32 := Host.absf main_arg9
  let main_cst_5 : FVec F S_ .f32 := constant S_ .f32 0x7F800000#32
  let main_v22 : FVec F S512 .f32 := broadcastInDim S512 ![] bcast_S_S512 main_cst_5
  let main_v23 : IVec S512 1 := cmpf .olt main_v21 main_v22
  (main_v2, main_v6, main_v11, main_v14, main_v17, main_v20, main_v23)

def fn {F : FTy → Type} [FloatOps F] (main_arg0 : FVec F S16x1024x8 .f32) (main_arg1 : FVec F S1x1x256 .f32) (main_arg2 : FVec F S8x256 .f32) (main_arg3 : FVec F S256 .f32) (main_arg4 : FVec F S256x1024 .f32) (main_arg5 : FVec F S512x4 .f32) (main_arg6 : FVec F S512 .f32) (main_arg7 : FVec F S512x48 .f32) (main_arg8 : FVec F S16x512 .f32) (main_arg9 : FVec F S512 .f32) (main_arg10 : FVec F S512x16 .f32) (main_arg11 : FVec F S512 .f32) (main_arg12 : FVec F S512x256 .f32) : IVec S1x1x256 1 × IVec S256x512 1 × IVec S512 1 × IVec S512 1 × IVec S512x48 1 × IVec S16x512 1 × IVec S512 1 :=
  let main_v0 : FVec F S1x1x256 .f32 := Host.absf main_arg1
  let main_cst : FVec F S_ .f32 := constant S_ .f32 0x7F800000#32
  let main_v1 : FVec F S1x1x256 .f32 := broadcastInDim S1x1x256 ![] bcast_S_S1x1x256 main_cst
  let main_v2 : IVec S1x1x256 1 := cmpf .olt main_v0 main_v1
  let main_v3 : FVec F S256x512 .f32 := (extractStridedSlice S256x512 ![0, 0] · slices_S256x1024_S256x512_0_0) main_arg4
  let main_v4 : FVec F S256x512 .f32 := Host.absf main_v3
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_v7 : FVec F S512x1 .f32 := (extractStridedSlice S512x1 ![0, 3] · slices_S512x4_S512x1_0_3) main_arg5
  let main_v8 : FVec F S512 .f32 := shapeCast S512 main_v7 shapeCasts_S512x1_S512
  let main_v9 : FVec F S512 .f32 := Host.absf main_v8
  let main_cst_1 : FVec F S_ .f32 := constant S_ .f32 0x7F800000#32
  let main_v10 : FVec F S512 .f32 := broadcastInDim S512 ![] bcast_S_S512 main_cst_1
  let main_v11 : IVec S512 1 := cmpf .olt main_v9 main_v10
  let main_v12 : FVec F S512 .f32 := Host.absf main_arg6
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  let main_v15 : FVec F S512x48 .f32 := Host.absf main_arg7
  let main_cst_3 : FVec F S_ .f32 := constant S_ .f32 0x7F800000#32
  let main_v16 : FVec F S512x48 .f32 := broadcastInDim S512x48 ![] bcast_S_S512x48 main_cst_3
  let main_v17 : IVec S512x48 1 := cmpf .olt main_v15 main_v16
  let main_v18 : FVec F S16x512 .f32 := Host.absf main_arg8
  fn_part1 (F := F) main_arg9 main_v2 main_v6 main_v11 main_v14 main_v17 main_v18
-- ==== Kernel.lean ====
abbrev S16x1024x8 : Shape := ⟨3, ![16, 1024, 8]⟩
abbrev S1x1x256 : Shape := ⟨3, ![1, 1, 256]⟩
abbrev S8x256 : Shape := ⟨2, ![8, 256]⟩
abbrev S256 : Shape := ⟨1, ![256]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S1x256 : Shape := ⟨2, ![1, 256]⟩
abbrev S512x1 : Shape := ⟨2, ![512, 1]⟩
abbrev S1x512 : Shape := ⟨2, ![1, 512]⟩
abbrev S16x256 : Shape := ⟨2, ![16, 256]⟩
abbrev S1x1024 : Shape := ⟨2, ![1, 1024]⟩
abbrev S1x48 : Shape := ⟨2, ![1, 48]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩

abbrev nBuf : Space → Nat
  | .hbm => 21
  | .vmem => 10
  | .smem => 0
  | _ => 0

abbrev bufTy : (tb : Table) → Fin (tcTables nBuf tb) → BufTy
  | .hbm, ⟨0, _⟩ => ⟨S16x1024x8, .f32⟩
  | .hbm, ⟨1, _⟩ => ⟨S1x1x256, .f32⟩
  | .hbm, ⟨2, _⟩ => ⟨S8x256, .f32⟩
  | .hbm, ⟨3, _⟩ => ⟨S256, .f32⟩
  | .hbm, ⟨4, _⟩ => ⟨S256x1024, .f32⟩
  | .hbm, ⟨5, _⟩ => ⟨S512x4, .f32⟩
  | .hbm, ⟨6, _⟩ => ⟨S512, .f32⟩
  | .hbm, ⟨7, _⟩ => ⟨S512x48, .f32⟩
  | .hbm, ⟨8, _⟩ => ⟨S16x512, .f32⟩
  | .hbm, ⟨9, _⟩ => ⟨S512, .f32⟩
  | .hbm, ⟨10, _⟩ => ⟨S512x16, .f32⟩
  | .hbm, ⟨11, _⟩ => ⟨S512, .f32⟩
  | .hbm, ⟨12, _⟩ => ⟨S512x256, .f32⟩
  | .hbm, ⟨13, _⟩ => ⟨S1x256, .f32⟩
  | .hbm, ⟨14, _⟩ => ⟨S512x1, .f32⟩
  | .hbm, ⟨15, _⟩ => ⟨S512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S16x256, .f32⟩
  | .local _ .vmem, ⟨0, _⟩ => ⟨S1x256, .f32⟩
  | .local _ .vmem, ⟨1, _⟩ => ⟨S256x1024, .f32⟩
  | .local _ .vmem, ⟨2, _⟩ => ⟨S1x512, .f32⟩
  | .local _ .vmem, ⟨3, _⟩ => ⟨S1x512, .f32⟩
  | .local _ .vmem, ⟨4, _⟩ => ⟨S512x48, .f32⟩
  | .local _ .vmem, ⟨5, _⟩ => ⟨S16x512, .f32⟩
  | .local _ .vmem, ⟨6, _⟩ => ⟨S1x512, .f32⟩
  | .local _ .vmem, ⟨7, _⟩ => ⟨S1x512, .f32⟩
  | .local _ .vmem, ⟨8, _⟩ => ⟨S512x256, .f32⟩
  | .local _ .vmem, ⟨9, _⟩ => ⟨S16x256, .f32⟩
  | _, _ => ⟨S16x1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x48 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== ReferenceIdeal.lean ====
abbrev S16x1024x8 : Shape := ⟨3, ![16, 1024, 8]⟩
abbrev S1x1x256 : Shape := ⟨3, ![1, 1, 256]⟩
abbrev S8x256 : Shape := ⟨2, ![8, 256]⟩
abbrev S256 : Shape := ⟨1, ![256]⟩
abbrev S256x1024 : Shape := ⟨2, ![256, 1024]⟩
abbrev S512x4 : Shape := ⟨2, ![512, 4]⟩
abbrev S512 : Shape := ⟨1, ![512]⟩
abbrev S512x48 : Shape := ⟨2, ![512, 48]⟩
abbrev S16x512 : Shape := ⟨2, ![16, 512]⟩
abbrev S512x16 : Shape := ⟨2, ![512, 16]⟩
abbrev S512x256 : Shape := ⟨2, ![512, 256]⟩
abbrev S16x1024x256 : Shape := ⟨3, ![16, 1024, 256]⟩
abbrev S16x1x256 : Shape := ⟨3, ![16, 1, 256]⟩
abbrev S16x1025x256 : Shape := ⟨3, ![16, 1025, 256]⟩
abbrev S16x1025x1024 : Shape := ⟨3, ![16, 1025, 1024]⟩
abbrev S16x1025x512 : Shape := ⟨3, ![16, 1025, 512]⟩
abbrev S_ : Shape := ⟨0, ![]⟩
abbrev S16x1028x512 : Shape := ⟨3, ![16, 1028, 512]⟩
abbrev S512x1 : Shape := ⟨2, ![512, 1]⟩
abbrev S1x1x512 : Shape := ⟨3, ![1, 1, 512]⟩
abbrev S16x1025x48 : Shape := ⟨3, ![16, 1025, 48]⟩
abbrev S16x1025x16 : Shape := ⟨3, ![16, 1025, 16]⟩
abbrev S16x512x16 : Shape := ⟨3, ![16, 512, 16]⟩
abbrev S1025x16x512 : Shape := ⟨3, ![1025, 16, 512]⟩
abbrev S1025x16x16 : Shape := ⟨3, ![1025, 16, 16]⟩
abbrev S1x16x512 : Shape := ⟨3, ![1, 16, 512]⟩
abbrev S1x16x16 : Shape := ⟨3, ![1, 16, 16]⟩
abbrev S16x16 : Shape := ⟨2, ![16, 16]⟩
abbrev S16x512x1 : Shape := ⟨3, ![16, 512, 1]⟩
abbrev S1x512x16 : Shape := ⟨3, ![1, 512, 16]⟩
abbrev S16x1x16 : Shape := ⟨3, ![16, 1, 16]⟩
abbrev S16x256 : Shape := ⟨2, ![16, 256]⟩

abbrev nBuf : Space → Nat
  | .hbm => 162
  | .vmem => 0
  | .smem => 0
  | _ => 0

abbrev hbmTy0_0 (i : Nat) : BufTy := match i % 128 with
  | 0 => ⟨S16x1024x8, .f32⟩
  | 1 => ⟨S1x1x256, .f32⟩
  | 2 => ⟨S8x256, .f32⟩
  | 3 => ⟨S256, .f32⟩
  | 4 => ⟨S256x1024, .f32⟩
  | 5 => ⟨S512x4, .f32⟩
  | 6 => ⟨S512, .f32⟩
  | 7 => ⟨S512x48, .f32⟩
  | 8 => ⟨S16x512, .f32⟩
  | 9 => ⟨S512, .f32⟩
  | 10 => ⟨S512x16, .f32⟩
  | 11 => ⟨S512, .f32⟩
  | 12 => ⟨S512x256, .f32⟩
  | 13 => ⟨S16x1024x256, .f32⟩
  | 14 => ⟨S1x1x256, .f32⟩
  | 15 => ⟨S16x1024x256, .f32⟩
  | 16 => ⟨S16x1024x256, .f32⟩
  | 17 => ⟨S16x1x256, .f32⟩
  | 18 => ⟨S16x1025x256, .f32⟩
  | 19 => ⟨S16x1025x1024, .f32⟩
  | 20 => ⟨S16x1025x512, .f32⟩
  | 21 => ⟨S16x1025x512, .f32⟩
  | 22 => ⟨S_, .i32⟩
  | 23 => ⟨S_, .f32⟩
  | 24 => ⟨S16x1028x512, .f32⟩
  | 25 => ⟨S16x1025x512, .f32⟩
  | 26 => ⟨S512x1, .f32⟩
  | 27 => ⟨S512, .f32⟩
  | 28 => ⟨S1x1x512, .f32⟩
  | 29 => ⟨S16x1025x512, .f32⟩
  | 30 => ⟨S16x1025x512, .f32⟩
  | 31 => ⟨S16x1025x512, .f32⟩
  | 32 => ⟨S512x1, .f32⟩
  | 33 => ⟨S512, .f32⟩
  | 34 => ⟨S1x1x512, .f32⟩
  | 35 => ⟨S16x1025x512, .f32⟩
  | 36 => ⟨S16x1025x512, .f32⟩
  | 37 => ⟨S16x1025x512, .f32⟩
  | 38 => ⟨S16x1025x512, .f32⟩
  | 39 => ⟨S512x1, .f32⟩
  | 40 => ⟨S512, .f32⟩
  | 41 => ⟨S1x1x512, .f32⟩
  | 42 => ⟨S16x1025x512, .f32⟩
  | 43 => ⟨S16x1025x512, .f32⟩
  | 44 => ⟨S16x1025x512, .f32⟩
  | 45 => ⟨S16x1025x512, .f32⟩
  | 46 => ⟨S512x1, .f32⟩
  | 47 => ⟨S512, .f32⟩
  | 48 => ⟨S1x1x512, .f32⟩
  | 49 => ⟨S16x1025x512, .f32⟩
  | 50 => ⟨S16x1025x512, .f32⟩
  | 51 => ⟨S16x1025x512, .f32⟩
  | 52 => ⟨S1x1x512, .f32⟩
  | 53 => ⟨S16x1025x512, .f32⟩
  | 54 => ⟨S16x1025x512, .f32⟩
  | 55 => ⟨S16x1025x512, .f32⟩
  | 56 => ⟨S16x1025x512, .f32⟩
  | 57 => ⟨S_, .f32⟩
  | 58 => ⟨S16x1025x512, .f32⟩
  | 59 => ⟨S16x1025x512, .f32⟩
  | 60 => ⟨S_, .f32⟩
  | 61 => ⟨S16x1025x512, .f32⟩
  | 62 => ⟨S16x1025x512, .f32⟩
  | 63 => ⟨S16x1025x512, .f32⟩
  | 64 => ⟨S16x1025x48, .f32⟩
  | 65 => ⟨S16x1025x16, .f32⟩
  | 66 => ⟨S16x1025x16, .f32⟩
  | 67 => ⟨S16x1025x16, .f32⟩
  | 68 => ⟨S16x1025x512, .f32⟩
  | 69 => ⟨S1x1x512, .f32⟩
  | 70 => ⟨S16x1025x512, .f32⟩
  | 71 => ⟨S16x1025x512, .f32⟩
  | 72 => ⟨S_, .f32⟩
  | 73 => ⟨S16x1025x512, .f32⟩
  | 74 => ⟨S16x1025x512, .f32⟩
  | 75 => ⟨S16x1025x512, .f32⟩
  | 76 => ⟨S16x1025x512, .f32⟩
  | 77 => ⟨S16x1025x512, .i1⟩
  | 78 => ⟨S16x1025x512, .f32⟩
  | 79 => ⟨S16x1025x512, .f32⟩
  | 80 => ⟨S16x1025x512, .f32⟩
  | 81 => ⟨S16x1025x512, .f32⟩
  | 82 => ⟨S16x1025x512, .f32⟩
  | 83 => ⟨S16x1025x512, .f32⟩
  | 84 => ⟨S16x1025x512, .f32⟩
  | 85 => ⟨S16x1025x512, .f32⟩
  | 86 => ⟨S512x16, .f32⟩
  | 87 => ⟨S512x16, .f32⟩
  | 88 => ⟨S_, .f32⟩
  | 89 => ⟨S16x512x16, .f32⟩
  | 90 => ⟨S1025x16x512, .f32⟩
  | 91 => ⟨S1025x16x512, .f32⟩
  | 92 => ⟨S1025x16x16, .f32⟩
  | 93 => ⟨S1025x16x16, .f32⟩
  | 94 => ⟨S_, .f32⟩
  | 95 => ⟨S1025x16x512, .f32⟩
  | 96 => ⟨S_, .i32⟩
  | 97 => ⟨S1025x16x512, .f32⟩
  | 98 => ⟨S1025x16x512, .f32⟩
  | 99 => ⟨S1025x16x16, .f32⟩
  | 100 => ⟨S1025x16x16, .f32⟩
  | 101 => ⟨S512x16, .f32⟩
  | 102 => ⟨S_, .i32⟩
  | 103 => ⟨S16x512x16, .f32⟩
  | 104 => ⟨S1025x16x512, .f32⟩
  | 105 => ⟨S_, .i32⟩
  | 106 => ⟨S_, .i1⟩
  | 107 => ⟨S_, .i32⟩
  | 108 => ⟨S_, .i32⟩
  | 109 => ⟨S1x16x512, .f32⟩
  | 110 => ⟨S16x512, .f32⟩
  | 111 => ⟨S_, .i32⟩
  | 112 => ⟨S_, .i32⟩
  | 113 => ⟨S1x16x512, .f32⟩
  | 114 => ⟨S16x512, .f32⟩
  | 115 => ⟨S_, .i32⟩
  | 116 => ⟨S_, .i32⟩
  | 117 => ⟨S1x16x16, .f32⟩
  | 118 => ⟨S16x16, .f32⟩
  | 119 => ⟨S_, .i32⟩
  | 120 => ⟨S_, .i32⟩
  | 121 => ⟨S1x16x16, .f32⟩
  | 122 => ⟨S16x16, .f32⟩
  | 123 => ⟨S16x512x1, .f32⟩
  | 124 => ⟨S1x512x16, .f32⟩
  | 125 => ⟨S16x512x16, .f32⟩
  | 126 => ⟨S16x512x16, .f32⟩
  | 127 => ⟨S16x512x16, .f32⟩
  | _ => ⟨S16x1024x8, .f32⟩

abbrev hbmTy0_1 (i : Nat) : BufTy := match i % 128 with
  | 0 => ⟨S16x512x16, .f32⟩
  | 1 => ⟨S16x512x16, .f32⟩
  | 2 => ⟨S16x512, .f32⟩
  | 3 => ⟨S16x512x1, .f32⟩
  | 4 => ⟨S16x1x16, .f32⟩
  | 5 => ⟨S16x512x16, .f32⟩
  | 6 => ⟨S16x512x16, .f32⟩
  | 7 => ⟨S16x512x16, .f32⟩
  | 8 => ⟨S16x512x16, .f32⟩
  | 9 => ⟨S16x512, .f32⟩
  | 10 => ⟨S1x16x512, .f32⟩
  | 11 => ⟨S_, .i32⟩
  | 12 => ⟨S_, .i32⟩
  | 13 => ⟨S1025x16x512, .f32⟩
  | 14 => ⟨S_, .i32⟩
  | 15 => ⟨S_, .i32⟩
  | 16 => ⟨S16x1025x512, .f32⟩
  | 17 => ⟨S1x1x512, .f32⟩
  | 18 => ⟨S16x1025x512, .f32⟩
  | 19 => ⟨S16x1025x512, .f32⟩
  | 20 => ⟨S16x1025x512, .f32⟩
  | 21 => ⟨S16x1025x512, .f32⟩
  | 22 => ⟨S16x1025x512, .f32⟩
  | 23 => ⟨S_, .f32⟩
  | 24 => ⟨S16x1025x512, .f32⟩
  | 25 => ⟨S16x1025x512, .f32⟩
  | 26 => ⟨S_, .f32⟩
  | 27 => ⟨S16x1025x512, .f32⟩
  | 28 => ⟨S16x1025x512, .f32⟩
  | 29 => ⟨S16x1025x512, .f32⟩
  | 30 => ⟨S16x1025x512, .f32⟩
  | 31 => ⟨S16x1025x256, .f32⟩
  | 32 => ⟨S16x1x256, .f32⟩
  | 33 => ⟨S16x256, .f32⟩
  | _ => ⟨S16x1024x8, .f32⟩

abbrev hbmTy (i : Nat) : BufTy := match i / 128 with
  | 0 => hbmTy0_0 i
  | 1 => hbmTy0_1 i
  | _ => ⟨S16x1024x8, .f32⟩

abbrev bufTy : (tb : Table) → Fin (tcTables nBuf tb) → BufTy
  | .hbm, ⟨i, _⟩ => hbmTy i
  | _, _ => ⟨S16x1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call2_cst : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_v6 : Ref sig .tc := ⟨.hbm, 79, rfl⟩
abbrev main_call2_v7 : Ref sig .tc := ⟨.hbm, 80, rfl⟩
abbrev main_call2_v8 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_0 : Ref sig .tc := ⟨.hbm, 94, rfl⟩
abbrev main_v57 : Ref sig .tc := ⟨.hbm, 95, rfl⟩
abbrev main_c_1 : Ref sig .tc := ⟨.hbm, 96, rfl⟩
abbrev main_v58_0 : Ref sig .tc := ⟨.hbm, 97, rfl⟩
abbrev main_v58_1 : Ref sig .tc := ⟨.hbm, 98, rfl⟩
abbrev main_v58_2 : Ref sig .tc := ⟨.hbm, 99, rfl⟩
abbrev main_v58_3 : Ref sig .tc := ⟨.hbm, 100, rfl⟩
abbrev main_v58_4 : Ref sig .tc := ⟨.hbm, 101, rfl⟩
abbrev main_v58_5 : Ref sig .tc := ⟨.hbm, 102, rfl⟩
abbrev main_v58_6 : Ref sig .tc := ⟨.hbm, 103, rfl⟩
abbrev main_v58_7 : Ref sig .tc := ⟨.hbm, 104, rfl⟩
abbrev main_while0c_c_9 : Ref sig .tc := ⟨.hbm, 105, rfl⟩
abbrev main_while0c_v69 : Ref sig .tc := ⟨.hbm, 106, rfl⟩
abbrev main_while0b_call3_c : Ref sig .tc := ⟨.hbm, 107, rfl⟩
abbrev main_while0b_call3_c_0 : Ref sig .tc := ⟨.hbm, 108, rfl⟩
abbrev main_while0b_call3_v0 : Ref sig .tc := ⟨.hbm, 109, rfl⟩
abbrev main_while0b_v69 : Ref sig .tc := ⟨.hbm, 110, rfl⟩
abbrev main_while0b_call4_c : Ref sig .tc := ⟨.hbm, 111, rfl⟩
abbrev main_while0b_call4_c_0 : Ref sig .tc := ⟨.hbm, 112, rfl⟩
abbrev main_while0b_call4_v0 : Ref sig .tc := ⟨.hbm, 113, rfl⟩
abbrev main_while0b_v70 : Ref sig .tc := ⟨.hbm, 114, rfl⟩
abbrev main_while0b_call5_c : Ref sig .tc := ⟨.hbm, 115, rfl⟩
abbrev main_while0b_call5_c_0 : Ref sig .tc := ⟨.hbm, 116, rfl⟩
abbrev main_while0b_call5_v0 : Ref sig .tc := ⟨.hbm, 117, rfl⟩
abbrev main_while0b_v71 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_v0 : Ref sig .tc := ⟨.hbm, 121, rfl⟩
abbrev main_while0b_v72 : Ref sig .tc := ⟨.hbm, 122, rfl⟩
abbrev main_while0b_v73 : Ref sig .tc := ⟨.hbm, 123, rfl⟩
abbrev main_while0b_v74 : Ref sig .tc := ⟨.hbm, 124, rfl⟩
abbrev main_while0b_v75 : Ref sig .tc := ⟨.hbm, 125, rfl⟩
abbrev main_while0b_v76 : Ref sig .tc := ⟨.hbm, 126, rfl⟩
abbrev main_while0b_v77 : Ref sig .tc := ⟨.hbm, 127, rfl⟩
abbrev main_while0b_v78 : Ref sig .tc := ⟨.hbm, 128, rfl⟩
abbrev main_while0b_v79 : Ref sig .tc := ⟨.hbm, 129, rfl⟩
abbrev main_while0b_v80 : Ref sig .tc := ⟨.hbm, 130, rfl⟩
abbrev main_while0b_v81 : Ref sig .tc := ⟨.hbm, 131, rfl⟩
abbrev main_while0b_v82 : Ref sig .tc := ⟨.hbm, 132, rfl⟩
abbrev main_while0b_v83 : Ref sig .tc := ⟨.hbm, 133, rfl⟩
abbrev main_while0b_v84 : Ref sig .tc := ⟨.hbm, 134, rfl⟩
abbrev main_while0b_v85 : Ref sig .tc := ⟨.hbm, 135, rfl⟩
abbrev main_while0b_v86 : Ref sig .tc := ⟨.hbm, 136, rfl⟩
abbrev main_while0b_v87 : Ref sig .tc := ⟨.hbm, 137, rfl⟩
abbrev main_while0b_call7_v0 : Ref sig .tc := ⟨.hbm, 138, rfl⟩
abbrev main_while0b_call7_c : Ref sig .tc := ⟨.hbm, 139, rfl⟩
abbrev main_while0b_call7_c_0 : Ref sig .tc := ⟨.hbm, 140, rfl⟩
abbrev main_while0b_v88 : Ref sig .tc := ⟨.hbm, 141, rfl⟩
abbrev main_while0b_c_9 : Ref sig .tc := ⟨.hbm, 142, rfl⟩
abbrev main_while0b_v89 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_call8_v0 : Ref sig .tc := ⟨.hbm, 149, rfl⟩
abbrev main_call8_v1 : Ref sig .tc := ⟨.hbm, 150, rfl⟩
abbrev main_call8_cst : Ref sig .tc := ⟨.hbm, 151, rfl⟩
abbrev main_call8_v2 : Ref sig .tc := ⟨.hbm, 152, rfl⟩
abbrev main_call8_v3 : Ref sig .tc := ⟨.hbm, 153, rfl⟩
abbrev main_call8_cst_0 : Ref sig .tc := ⟨.hbm, 154, rfl⟩
abbrev main_call8_v4 : Ref sig .tc := ⟨.hbm, 155, rfl⟩
abbrev main_call8_v5 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩

abbrev nD : Nat := 1
abbrev τ : Topo := Topo.v7x

variable {F : FTy → Type} [FloatOps F]

abbrev main_while0_count : Scf.Loop 32 := ⟨0#32, 1025#32, 1#32⟩
-- ==== Proof.Row.lean ====
/- The mathematics of one class-token row, over the extended reals and free of any program: the projections, the
   gated output, the step size, the two spellings of the first scan step, and their equality on finite data. -/
module

public import Idealize.ShloMosaic.PureOps
public import Idealize.ShloMosaic.PureOps.Ideal.Laws

@[expose] public section

noncomputable section

namespace Cert.Row

open Idealize.ShloMosaic

/-- `x` times its sigmoid. -/
def silu (x : EReal) : EReal := x * Ideal.div 1 (1 + Ideal.exp (-x))

/-- `log (1 + e^x)`, spelt by the larger of `x` and 0 and the distance of `x` from 0. -/
def softplus (x : EReal) : EReal :=
  max x 0 + Ideal.log1p (Ideal.exp (-FloatOps.absf (F := Ideal) (φ := .f32) x))

/-- What the class token's output depends on: the token and the weights, entry by entry. -/
structure Data where
  cls : Fin 256 → EReal
  win : Fin 256 → Fin 1024 → EReal
  tap : Fin 512 → EReal
  cb : Fin 512 → EReal
  wx : Fin 512 → Fin 48 → EReal
  wdt : Fin 16 → Fin 512 → EReal
  bdt : Fin 512 → EReal
  skip : Fin 512 → EReal
  wout : Fin 512 → Fin 256 → EReal

namespace Data

variable (a : Data)

/-- The token's projection: the scanned half (columns 0 to 511). -/
def xh (d : Fin 512) : EReal := ∑ k, a.cls k * a.win k ⟨d, by omega⟩

/-- The token's projection: the gate's half (columns 512 to 1023). -/
def z (d : Fin 512) : EReal := ∑ k, a.cls k * a.win k ⟨512 + d, by omega⟩

/-- The scanned half after the convolution (at the first position only its last tap sees data) and the activation. -/
def u (d : Fin 512) : EReal := silu (a.xh d * a.tap d + a.cb d)

/-- The 48 data-dependent numbers of the scan: 16 for the step size, 16 inputs, 16 outputs. -/
def dbl (j : Fin 48) : EReal := ∑ d, a.u d * a.wx d j

/-- The step size. -/
def delta (d : Fin 512) : EReal := softplus (∑ r : Fin 16, a.dbl ⟨r, by omega⟩ * a.wdt r d + a.bdt d)

/-- The scan's input coefficients. -/
def inC (n : Fin 16) : EReal := a.dbl ⟨16 + n, by omega⟩

/-- The scan's output coefficients. -/
def outC (n : Fin 16) : EReal := a.dbl ⟨32 + n, by omega⟩

/-- The first scan step with the sum over the states taken by itself. -/
def factored (d : Fin 512) : EReal := a.delta d * a.u d * ∑ n, a.inC n * a.outC n

/-- The first scan step state by state. -/
def scanned (d : Fin 512) : EReal := ∑ n, a.delta d * a.u d * a.inC n * a.outC n

/-- The block's output from the scan's result `y`: the skip connection, the gate, the last projection. -/
def out (y : Fin 512 → EReal) (o : Fin 256) : EReal :=
  ∑ d, (y d + a.u d * a.skip d) * silu (a.z d) * a.wout d o

end Data

/-! ## Real values -/

/-- An extended real that is a real number. -/
def IsReal (x : EReal) : Prop := ∃ r : ℝ, x = (r : EReal)

/-- The sum of two reals is real. -/
theorem IsReal.add {x y : EReal} : IsReal x → IsReal y → IsReal (x + y)
  | ⟨r, hr⟩, ⟨s, hs⟩ => ⟨r + s, by rw [hr, hs, EReal.coe_add]⟩

/-- The product of two reals is real. -/
theorem IsReal.mul {x y : EReal} : IsReal x → IsReal y → IsReal (x * y)
  | ⟨r, hr⟩, ⟨s, hs⟩ => ⟨r * s, by rw [hr, hs, EReal.coe_mul]⟩

/-- A finite sum of reals, taken in the extended reals, is the real sum. -/
theorem sum_coe {ι : Type*} [Fintype ι] (g : ι → ℝ) : ∑ i, (g i : EReal) = ((∑ i, g i : ℝ) : EReal) := by
  classical
  have h : ∀ s : Finset ι, ∑ i ∈ s, (g i : EReal) = ((∑ i ∈ s, g i : ℝ) : EReal) := fun s => by
    induction s using Finset.induction_on with
    | empty => simp
    | insert i s hi ih => rw [Finset.sum_insert hi, Finset.sum_insert hi, ih, EReal.coe_add]
  exact h Finset.univ

/-- A finite sum of reals is real. -/
theorem IsReal.sum {ι : Type*} [Fintype ι] {f : ι → EReal} (h : ∀ i, IsReal (f i)) : IsReal (∑ i, f i) := by
  choose g hg using h
  exact ⟨∑ i, g i, by rw [← sum_coe]; exact Finset.sum_congr rfl fun i _ => hg i⟩

/-- The activation of a real is real. -/
theorem IsReal.silu {x : EReal} (h : IsReal x) : IsReal (silu x) := by
  refine h.mul ?_
  obtain ⟨r, rfl⟩ := h
  have hp : (1 + Real.exp (-r) : ℝ) ≠ 0 := by positivity
  refine ⟨1 * (1 / (1 + Real.exp (-r))), ?_⟩
  rw [show (1 : EReal) + Ideal.exp (-(r : EReal)) = ((1 + Real.exp (-r) : ℝ) : EReal) by
    rw [← EReal.coe_neg, Ideal.exp_coe, EReal.coe_add]; rfl]
  rw [Ideal.div_coe hp, EReal.coe_mul]
  rfl

/-- The logarithm of a real above zero is real. -/
theorem isReal_log {r : ℝ} (h : 0 < r) : IsReal (Ideal.log (r : EReal)) :=
  ⟨Real.log r, if_neg (not_le.mpr h)⟩

/-- The larger of two reals is real. -/
theorem IsReal.max {x y : EReal} (hx : IsReal x) (hy : IsReal y) : IsReal (max x y) := by
  rcases max_choice x y with h | h <;> rw [h] <;> assumption

/-- The step-size function of a real is real. -/
theorem IsReal.softplus {x : EReal} (h : IsReal x) : IsReal (softplus x) := by
  refine (h.max ⟨0, rfl⟩).add ?_
  obtain ⟨s, hs⟩ : IsReal (FloatOps.absf (F := Ideal) (φ := .f32) x) := by
    obtain ⟨r, rfl⟩ := h
    exact IsReal.max ⟨r, rfl⟩ ⟨-r, (EReal.coe_neg r).symm⟩
  rw [hs, Ideal.log1p, ← EReal.coe_neg, Ideal.exp_coe,
    show (1 : EReal) + (Real.exp (-s) : EReal) = ((1 + Real.exp (-s) : ℝ) : EReal) by rw [EReal.coe_add]; rfl]
  exact isReal_log (by positivity)

/-! ## The two spellings agree -/

/-- A real factor moves into a finite sum of products of reals, each product regrouped. -/
theorem mul_sum_real {ι : Type*} [Fintype ι] {p : EReal} {b c : ι → EReal} (hp : IsReal p) (hb : ∀ i, IsReal (b i))
    (hc : ∀ i, IsReal (c i)) : p * ∑ i, b i * c i = ∑ i, p * b i * c i := by
  obtain ⟨r, rfl⟩ := hp
  choose f hf using hb
  choose g hg using hc
  simp only [hf, hg, ← EReal.coe_mul]
  rw [sum_coe, sum_coe, ← EReal.coe_mul, Finset.mul_sum]
  simp only [mul_assoc]

namespace Data

variable (a : Data)

/-- The entries from which the first scan step is computed are real. -/
structure Finite : Prop where
  cls : ∀ k, IsReal (a.cls k)
  win : ∀ k (d : Fin 512), IsReal (a.win k ⟨d, by omega⟩)
  tap : ∀ d, IsReal (a.tap d)
  cb : ∀ d, IsReal (a.cb d)
  wx : ∀ d j, IsReal (a.wx d j)
  wdt : ∀ r d, IsReal (a.wdt r d)
  bdt : ∀ d, IsReal (a.bdt d)

variable {a} (h : a.Finite)
include h

/-- On finite data the scan's input is real. -/
theorem Finite.u (d : Fin 512) : IsReal (a.u d) :=
  (((IsReal.sum fun k => (h.cls k).mul (h.win k d)).mul (h.tap d)).add (h.cb d)).silu

/-- On finite data the 48 numbers of the scan are real. -/
theorem Finite.dbl (j : Fin 48) : IsReal (a.dbl j) := IsReal.sum fun d => (h.u d).mul (h.wx d j)

/-- On finite data the step size is real. -/
theorem Finite.delta (d : Fin 512) : IsReal (a.delta d) :=
  ((IsReal.sum fun r => (h.dbl _).mul (h.wdt r d)).add (h.bdt d)).softplus

/-- On finite data the first scan step may be taken with the sum over the states by itself. -/
theorem Finite.factored_eq : a.factored = a.scanned :=
  funext fun d => mul_sum_real ((h.delta d).mul (h.u d)) (fun _ => h.dbl _) (fun _ => h.dbl _)

end Data

end Cert.Row

end
-- ==== Proof.Stages.lean ====
/- The reference's straight-line stretches read at the first position, each from any contents before it. -/
module

public import proofs.«01_k».proof.Defs
public import proofs.«01_k».proof.Proof.Row
public import proofs.«01_k».proof.Proof.Gen.ReferenceIdeal.Run
public import Idealize.ShloMosaic.Lib.StableHlo.ReadAt
public import Idealize.ShloMosaic.Lib.Pointwise

@[expose] public section

set_option maxRecDepth 16384

noncomputable section

namespace Cert.ReferenceIdeal.Row

open Idealize.ShloMosaic Idealize.ShloMosaic.TcCoe Idealize.ShloMosaic.StableHlo
open Cert.ReferenceIdeal.Gen Cert.ReferenceIdeal.Value
open Cert.Row (Data silu softplus)

variable (V : Valuation τ sig (Elt Ideal))

/-- The data in the reference's arguments, in any contents. -/
def data : Data where
  cls k := V (Proc.devRef .tc main_arg1) (ix3 0 0 k)
  win k j := V (Proc.devRef .tc main_arg4) (ix2 k j)
  tap d := V (Proc.devRef .tc main_arg5) (ix2 d 3)
  cb d := V (Proc.devRef .tc main_arg6) (ix1 d)
  wx d j := V (Proc.devRef .tc main_arg7) (ix2 d j)
  wdt r d := V (Proc.devRef .tc main_arg8) (ix2 r d)
  bdt d := V (Proc.devRef .tc main_arg9) (ix1 d)
  skip d := V (Proc.devRef .tc main_arg11) (ix1 d)
  wout d o := V (Proc.devRef .tc main_arg12) (ix2 d o)

/-! ## Before the scan -/

/-- The class token, repeated for every batch entry. -/
theorem cls_at (b : Fin 16) (k : Fin 256) :
    upto hostOps0 V 5 (Proc.devRef .tc main_v4) (ix3 b 0 k) = V (Proc.devRef .tc main_arg1) (ix3 0 0 k) := by
  after_reads_at

/-- The scanned half of the class token's projection. -/
theorem xh_at (b : Fin 16) (d : Fin 512) :
    after hostOps0 V (Proc.devRef .tc main_v7) (ix3 b 0 d) = (data V).xh d := by
  after_reads_at
  exact Finset.sum_congr rfl fun k _ => congrArg (· * _) (cls_at V b k)

/-- The gate's half of the class token's projection. -/
theorem z_at (b : Fin 16) (d : Fin 512) :
    after hostOps0 V (Proc.devRef .tc main_v8) (ix3 b 0 d) = (data V).z d := by
  after_reads_at
  exact Finset.sum_congr rfl fun k _ => congrArg (· * _) (cls_at V b k)

/-- Padding by three zeros on the left puts the first position's entry at position 3. -/
theorem pad_at_three (b : Fin 16) (d : Fin 512) :
    after hostOps0_1 V (Proc.devRef .tc main_v9) (ix3 b 3 d) = V (Proc.devRef .tc main_v7) (ix3 b 0 d) := by
  after_reads_at

/-- The constant the padding takes its zeros from. -/
theorem pad_zero_at : after hostOps0 V (Proc.devRef .tc main_c) = constantI S_ 32 0#32 := by
  after_reads_at

/-- The three entries before it are zero. -/
theorem pad_at_lt (hc : V (Proc.devRef .tc main_c) = constantI S_ 32 0#32) (b : Fin 16) (d : Fin 512) (t : Fin 3) :
    after hostOps0_1 V (Proc.devRef .tc main_v9) (ix3 b ⟨t, by omega⟩ d) = (0 : EReal) := by
  after_reads_at
  rw [dif_neg fun h => h.1, hc]
  show (((0#32 : BitVec 32).toInt : ℝ) : EReal) = 0
  simp

/-- The convolution at the first position, from the padded entries: the taps before the last meet zeros. -/
theorem conv_at {x : Fin 512 → EReal} (b : Fin 16) (d : Fin 512)
    (h : ∀ t : Fin 3, V (Proc.devRef .tc main_v9) (ix3 b ⟨t, by omega⟩ d) = (0 : EReal))
    (h3 : V (Proc.devRef .tc main_v9) (ix3 b 3 d) = x d) :
    after hostOps0_2 V (Proc.devRef .tc main_v39) (ix3 b 0 d) = x d * (data V).tap d + (data V).cb d := by
  after_reads_at
  rw [show V (Proc.devRef .tc main_v9) (ix3 b 0 d) = (0 : EReal) from h 0,
    show V (Proc.devRef .tc main_v9) (ix3 b 1 d) = (0 : EReal) from h 1,
    show V (Proc.devRef .tc main_v9) (ix3 b 2 d) = (0 : EReal) from h 2, h3]
  rw [zero_mul, zero_mul, zero_mul, zero_add, zero_add, zero_add]
  rfl

/-- The activation of the convolution. -/
theorem silu_conv_at (b : Fin 16) (d : Fin 512) :
    after hostOps0_3 V (Proc.devRef .tc main_v40) (ix3 b 0 d) = silu (V (Proc.devRef .tc main_v39) (ix3 b 0 d)) := by
  after_reads_at
  rfl

/-- The scan's input coefficients. -/
theorem inC_at {u : Fin 512 → EReal} (b : Fin 16) (hu : ∀ d, V (Proc.devRef .tc main_v40) (ix3 b 0 d) = u d) (n : Fin 16) :
    after hostOps0_4 V (Proc.devRef .tc main_v43) (ix3 b 0 n)
    = ∑ x, u x * (data V).wx x ⟨16 + n, by omega⟩ := by
  after_reads_at
  simp only [hu]
  rfl

/-- The scan's output coefficients. -/
theorem outC_at {u : Fin 512 → EReal} (b : Fin 16) (hu : ∀ d, V (Proc.devRef .tc main_v40) (ix3 b 0 d) = u d) (n : Fin 16) :
    after hostOps0_4 V (Proc.devRef .tc main_v44) (ix3 b 0 n)
    = ∑ x, u x * (data V).wx x ⟨32 + n, by omega⟩ := by
  after_reads_at
  simp only [hu]
  rfl

/-- The step size before its activation. -/
theorem step_at {u : Fin 512 → EReal} (b : Fin 16) (hu : ∀ d, V (Proc.devRef .tc main_v40) (ix3 b 0 d) = u d) (d : Fin 512) :
    after hostOps0_4 V (Proc.devRef .tc main_v48) (ix3 b 0 d)
    = ∑ r : Fin 16, (∑ x, u x * (data V).wx x ⟨r, by omega⟩) * (data V).wdt r d + (data V).bdt d := by
  after_reads_at
  simp only [hu]
  rfl

/-- The step size. -/
theorem softplus_at (b : Fin 16) (d : Fin 512) :
    after hostOps0_5 V (Proc.devRef .tc main_v49) (ix3 b 0 d) = softplus (V (Proc.devRef .tc main_v48) (ix3 b 0 d)) := by
  after_reads_at
  exact if_neg fun hn => hn rfl

/-- The scan's input, time first. -/
theorem scan_u_at (b : Fin 16) (d : Fin 512) :
    after hostOps0_6 V (Proc.devRef .tc main_v58_0) (ix3 0 b d) = V (Proc.devRef .tc main_v40) (ix3 b 0 d) := by
  after_reads_at
  pointwise [id_eq]

/-- The step size, time first. -/
theorem scan_delta_at (b : Fin 16) (d : Fin 512) :
    after hostOps0_6 V (Proc.devRef .tc main_v58_1) (ix3 0 b d) = V (Proc.devRef .tc main_v49) (ix3 b 0 d) := by
  after_reads_at
  pointwise [id_eq]

/-- The input coefficients, time first. -/
theorem scan_inC_at (b n : Fin 16) :
    after hostOps0_6 V (Proc.devRef .tc main_v58_2) (ix3 0 b n) = V (Proc.devRef .tc main_v43) (ix3 b 0 n) := by
  after_reads_at
  pointwise [id_eq]

/-- The output coefficients, time first. -/
theorem scan_outC_at (b n : Fin 16) :
    after hostOps0_6 V (Proc.devRef .tc main_v58_3) (ix3 0 b n) = V (Proc.devRef .tc main_v44) (ix3 b 0 n) := by
  after_reads_at
  pointwise [id_eq]

/-- The scan starts from the zero state. -/
theorem scan_state_at (b : Fin 16) (d : Fin 512) (n : Fin 16) :
    after hostOps0_6 V (Proc.devRef .tc main_v58_6) (ix3 b d n) = (0 : EReal) := by
  after_reads_at
  pointwise [id_eq]

/-! ## After the scan -/

/-- The scan's result and the skip connection. -/
theorem skip_at {y u : Fin 512 → EReal} (b : Fin 16) (hy : ∀ d, V (Proc.devRef .tc main_v58_7) (ix3 0 b d) = y d)
    (hu : ∀ d, V (Proc.devRef .tc main_v40) (ix3 b 0 d) = u d) (d : Fin 512) :
    after hostOps0_7 V (Proc.devRef .tc main_v63) (ix3 b 0 d) = y d + u d * (data V).skip d := by
  after_reads_at
  rw [hy, hu]
  rfl

/-- The activation of the gate. -/
theorem gate_at (b : Fin 16) (d : Fin 512) :
    after hostOps0_8 V (Proc.devRef .tc main_v64) (ix3 b 0 d) = silu (V (Proc.devRef .tc main_v8) (ix3 b 0 d)) := by
  after_reads_at
  rfl

/-- The gated result's projection at the class token. -/
theorem out_at {y g : Fin 512 → EReal} (b : Fin 16) (hy : ∀ d, V (Proc.devRef .tc main_v63) (ix3 b 0 d) = y d)
    (hg : ∀ d, V (Proc.devRef .tc main_v64) (ix3 b 0 d) = g d) (o : Fin 256) :
    after hostOps0_9 V (Proc.devRef .tc main_v68) (ix2 b o) = ∑ d, y d * g d * (data V).wout d o := by
  after_reads_at
  simp only [hy, hg]
  rfl

end Cert.ReferenceIdeal.Row

end
-- ==== Proof.Loop.lean ====
/- The reference's scan read at the first position: the first trip writes row 0 of the result, the later trips keep it. -/
module

public import proofs.«01_k».proof.Proof.Stages
public import Idealize.ShloMosaic.Lib.DynamicIndex

@[expose] public section

set_option maxRecDepth 16384

noncomputable section

namespace Cert.ReferenceIdeal.Row

open Idealize.ShloMosaic Idealize.ShloMosaic.TcCoe Idealize.ShloMosaic.StableHlo
open Cert.ReferenceIdeal.Gen Cert.ReferenceIdeal.Value
open Cert.Row (Data silu softplus)

variable (V : Valuation τ sig (Elt Ideal))

/-! ## A block at the first row -/

/-- A dynamic slice whose starts are all zero is the static slice from the first entry. -/
theorem slice_at_zero {s : Shape} {α : Type} (t : Shape) (x : s.Idx → α) (start : Fin s.rank → Int)
    (h : s.Slices (fun _ => 0) t) (hs : start = fun _ => 0) :
    Host.dynamicSlice t x start h = extractStridedSlice t (fun _ => 0) x h :=
  Host.dynamicSlice_eq_extractStridedSlice t x start _ h h fun a => congrFun hs a

/-- A dynamic update whose starts are all zero is the static update at the first entry. -/
theorem update_at_zero {s u : Shape} {α : Type} (x : s.Idx → α) (upd : u.Idx → α) (start : Fin s.rank → Int)
    (h : s.Slices (fun _ => 0) u) (hs : start = fun _ => 0) :
    Host.dynamicUpdateSlice x upd start h = updateSlice x upd (fun _ => 0) h :=
  Host.dynamicUpdateSlice_eq_updateSlice x upd start h _ (fun a => by rw [hs]; show (min (max (0 : Int) 0) _).toNat = 0; omega) h

/-- The starts of a trip's slices: the counter along the time axis, zero along the others. -/
abbrev starts : Fin 3 → Int := fun k =>
  (((![V (Proc.devRef .tc main_v58_5), constantI S_ 32 0#32, constantI S_ 32 0#32] :
    Fin 3 → (⟨S_, .i32⟩ : BufTy).Contents (Elt Ideal))) k (Shape.Idx.first h_S_)).toInt

variable {V}

/-- At the first trip every start is zero. -/
theorem starts_zero (hw : V (Proc.devRef .tc main_v58_5) = fun _ => (0#32 : BitVec 32)) : starts V = fun _ => 0 := by
  funext k
  unfold starts
  rw [hw]
  fin_cases k <;> rfl

/-! ## One trip at row 0 -/

/-- A trip whose counter is above zero writes another row. -/
theorem trip_keeps_row {w : BitVec 32} (hw : V (Proc.devRef .tc main_v58_5) = fun _ => w) (h : 1 ≤ w.toInt) (b : Fin 16)
    (d : Fin 512) : step_main_v58_7 V (ix3 0 b d) = V (Proc.devRef .tc main_v58_7) (ix3 0 b d) := by
  unfold step_main_v58_7
  rw [id_eq, Host.dynamicUpdateSlice_apply, dif_neg]
  intro hin
  have h0 := (hin 0).1
  rw [hw] at h0
  change (min (max w.toInt 0) ((1025 - 1 : ℕ) : Int)).toNat ≤ 0 at h0
  omega

/-- The first trip's state, from the zero state: the input term alone. -/
theorem state_at {u dt : Fin 512 → EReal} {bn : Fin 16 → EReal}
    (hw : V (Proc.devRef .tc main_v58_5) = fun _ => (0#32 : BitVec 32)) (b : Fin 16)
    (hu : ∀ d, V (Proc.devRef .tc main_v58_0) (ix3 0 b d) = u d)
    (hd : ∀ d, V (Proc.devRef .tc main_v58_1) (ix3 0 b d) = dt d)
    (hb : ∀ n, V (Proc.devRef .tc main_v58_2) (ix3 0 b n) = bn n)
    (hz : ∀ d n, V (Proc.devRef .tc main_v58_6) (ix3 b d n) = (0 : EReal)) (d : Fin 512) (n : Fin 16) :
    res_main_while0b_v86 V (ix3 b d n) = dt d * u d * bn n := by
  unfold res_main_while0b_v86 res_main_while0b_v70
  rw [slice_at_zero _ _ _ _ (starts_zero hw), slice_at_zero _ _ _ _ (starts_zero hw), slice_at_zero _ _ _ _ (starts_zero hw)]
  clean_types
  pointwise [hz, hu, hd, hb]
  rw [mul_zero, zero_add]

/-- The first trip writes row 0. -/
theorem trip_writes_row {st : Fin 512 → Fin 16 → EReal} {cn : Fin 16 → EReal}
    (hw : V (Proc.devRef .tc main_v58_5) = fun _ => (0#32 : BitVec 32)) (b : Fin 16)
    (hs : ∀ d n, res_main_while0b_v86 V (ix3 b d n) = st d n)
    (hc : ∀ n, V (Proc.devRef .tc main_v58_3) (ix3 0 b n) = cn n) (d : Fin 512) :
    step_main_v58_7 V (ix3 0 b d) = ∑ n, st d n * cn n := by
  unfold step_main_v58_7
  rw [slice_at_zero _ _ _ _ (starts_zero hw), update_at_zero _ _ _ _ (starts_zero hw)]
  clean_types
  pointwise [id_eq, hs, hc]

end Cert.ReferenceIdeal.Row

end
-- ==== Proof.Fold.lean ====
/- The reference's whole run read at the class token: the stretches, the scan's trips and the stretches after it composed. -/
module

public import proofs.«01_k».proof.Proof.Loop

@[expose] public section

set_option maxRecDepth 16384

noncomputable section

namespace Cert.ReferenceIdeal.Row

open Idealize.ShloMosaic Idealize.ShloMosaic.TcCoe Idealize.ShloMosaic.StableHlo
open Cert.ReferenceIdeal.Gen Cert.ReferenceIdeal.Value
open Cert.Row (Data silu softplus)

/-! ## Buffers a stretch does not write -/

/-- The program's arguments. -/
abbrev argL : List (Ref sig .tc) :=
  [main_arg0, main_arg1, main_arg2, main_arg3, main_arg4, main_arg5, main_arg6, main_arg7, main_arg8, main_arg9, main_arg10,
    main_arg11, main_arg12]

/-- What the scan leaves alone and the stretches after it read: the arguments, the gate's half, the scan's input. -/
abbrev loopL : List (Ref sig .tc) := argL ++ [main_v8, main_v40]

/-- Two contents agree on the listed buffers. -/
def Same (L : List (Ref sig .tc)) (V V' : Valuation τ sig (Elt Ideal)) : Prop :=
  ∀ r ∈ L, V' (Proc.devRef .tc r) = V (Proc.devRef .tc r)

/-- Agreement composes. -/
theorem Same.trans {L : List (Ref sig .tc)} {V V' V'' : Valuation τ sig (Elt Ideal)} (h : Same L V V') (h' : Same L V' V'') :
    Same L V V'' := fun r hr => (h' r hr).trans (h r hr)

/-- Agreement on more buffers is agreement on fewer. -/
theorem Same.mono {L L' : List (Ref sig .tc)} {V V' : Valuation τ sig (Elt Ideal)} (h : Same L V V') (hL : ∀ r ∈ L', r ∈ L) :
    Same L' V V' := fun r hr => h r (hL r hr)

/-- A stretch keeps the buffers it does not write. -/
theorem same_after {W : List (Ref sig .tc)} (L : List (Ref sig .tc)) (ops : List (HloOp τ sig (Elt Ideal)))
    (V : Valuation τ sig (Elt Ideal))
    (hW : ops.Forall fun op => op.writes ⊆ (W.map (Proc.devRef (τ := τ) .tc)).toFinset) (h : ∀ r ∈ L, r ∉ W) :
    Same L V (after ops V) := fun r hr => after_of_writes_sub ops V hW (h r hr)

/-- Contents that agree on the arguments hold the same data. -/
theorem Same.data {V V' : Valuation τ sig (Elt Ideal)} (h : Same argL V V') : data V' = data V := by
  unfold Row.data
  rw [h main_arg1 (by decide), h main_arg4 (by decide), h main_arg5 (by decide), h main_arg6 (by decide),
    h main_arg7 (by decide), h main_arg8 (by decide), h main_arg9 (by decide), h main_arg11 (by decide),
    h main_arg12 (by decide)]

/-- What the stretch after the scan writes. -/
abbrev skipW : List (Ref sig .tc) := [main_v59, main_v60, main_v61, main_v62, main_v63]
/-- It writes these. -/
theorem skip_writes : (hostOps0_7 : List (HloOp τ sig (Elt Ideal))).Forall fun op =>
    op.writes ⊆ (skipW.map (Proc.devRef (τ := τ) .tc)).toFinset := forall_writes_sub_of_map rfl

/-- What the gate's activation writes. -/
abbrev gateW : List (Ref sig .tc) := [main_call8_v0, main_call8_v1, main_call8_cst, main_call8_v2, main_call8_v3,
  main_call8_cst_0, main_call8_v4, main_call8_v5, main_v64]
/-- It writes these. -/
theorem gate_writes : (hostOps0_8 : List (HloOp τ sig (Elt Ideal))).Forall fun op =>
    op.writes ⊆ (gateW.map (Proc.devRef (τ := τ) .tc)).toFinset := forall_writes_sub_of_map rfl

/-- What the last stretch writes. -/
abbrev outW : List (Ref sig .tc) := [main_v65, main_v66, main_v67, main_v68]
/-- It writes these. -/
theorem out_writes : (hostOps0_9 : List (HloOp τ sig (Elt Ideal))).Forall fun op =>
    op.writes ⊆ (outW.map (Proc.devRef (τ := τ) .tc)).toFinset := forall_writes_sub_of_map rfl

/-! ## At the scan's entry -/

/-- The scan's operands at the first position, with what the later stretches read, hold the data's values. -/
structure Entry (a : Data) (E : Valuation τ sig (Elt Ideal)) : Prop where
  z : ∀ b d, E (Proc.devRef .tc main_v8) (ix3 b 0 d) = a.z d
  u : ∀ b d, E (Proc.devRef .tc main_v40) (ix3 b 0 d) = a.u d
  scanU : ∀ b d, E (Proc.devRef .tc main_v58_0) (ix3 0 b d) = a.u d
  scanDelta : ∀ b d, E (Proc.devRef .tc main_v58_1) (ix3 0 b d) = a.delta d
  scanIn : ∀ b n, E (Proc.devRef .tc main_v58_2) (ix3 0 b n) = a.inC n
  scanOut : ∀ b n, E (Proc.devRef .tc main_v58_3) (ix3 0 b n) = a.outC n
  state : ∀ b d n, E (Proc.devRef .tc main_v58_6) (ix3 b d n) = (0 : EReal)

/-- The stretches before the scan keep the arguments. -/
theorem same_pre (V : Valuation τ sig (Elt Ideal)) : Same argL V (afterL preI V) :=
  (same_after argL hostOps0 V hostOps0_writes (by decide +kernel)).trans <|
  (same_after argL hostOps0_1 _ hostOps0_1_writes (by decide +kernel)).trans <|
  (same_after argL hostOps0_2 _ hostOps0_2_writes (by decide +kernel)).trans <|
  (same_after argL hostOps0_3 _ hostOps0_3_writes (by decide +kernel)).trans <|
  (same_after argL hostOps0_4 _ hostOps0_4_writes (by decide +kernel)).trans <|
  (same_after argL hostOps0_5 _ hostOps0_5_writes (by decide +kernel)).trans <|
  same_after argL hostOps0_6 _ hostOps0_6_writes (by decide +kernel)

/-- The stretches before the scan compute its operands from the arguments. -/
theorem entry (V : Valuation τ sig (Elt Ideal)) : Entry (data V) (afterL preI V) := by
  have s0 := same_after argL hostOps0 V hostOps0_writes (by decide +kernel)
  have s1 := s0.trans (same_after argL hostOps0_1 _ hostOps0_1_writes (by decide +kernel))
  have s2 := s1.trans (same_after argL hostOps0_2 _ hostOps0_2_writes (by decide +kernel))
  have s3 := s2.trans (same_after argL hostOps0_3 _ hostOps0_3_writes (by decide +kernel))
  simp only [preI, afterL_cons, afterL_nil]
  generalize hV0 : after hostOps0 V = V0 at *
  generalize hV1 : after hostOps0_1 V0 = V1 at *
  generalize hV2 : after hostOps0_2 V1 = V2 at *
  generalize hV3 : after hostOps0_3 V2 = V3 at *
  generalize hV4 : after hostOps0_4 V3 = V4 at *
  generalize hV5 : after hostOps0_5 V4 = V5 at *
  have hx : ∀ b d, V0 (Proc.devRef .tc main_v7) (ix3 b 0 d) = (data V).xh d := fun b d => hV0 ▸ xh_at V b d
  have hz : ∀ b d, V0 (Proc.devRef .tc main_v8) (ix3 b 0 d) = (data V).z d := fun b d => hV0 ▸ z_at V b d
  have hc : V0 (Proc.devRef .tc main_c) = constantI S_ 32 0#32 := hV0 ▸ pad_zero_at V
  have hp : ∀ b d, V1 (Proc.devRef .tc main_v9) (ix3 b 3 d) = (data V).xh d := fun b d =>
    hV1 ▸ (pad_at_three V0 b d).trans (hx b d)
  have h39 : ∀ b d, V2 (Proc.devRef .tc main_v39) (ix3 b 0 d) = (data V).xh d * (data V).tap d + (data V).cb d :=
    fun b d => by
      subst hV2 hV1
      rw [conv_at _ b d (pad_at_lt V0 hc b d) (hp b d), s1.data]
  have hu : ∀ b d, V3 (Proc.devRef .tc main_v40) (ix3 b 0 d) = (data V).u d := fun b d => by
    subst hV3
    rw [silu_conv_at, h39]
    rfl
  have hd : ∀ b d, V5 (Proc.devRef .tc main_v49) (ix3 b 0 d) = (data V).delta d := fun b d => by
    subst hV5 hV4
    rw [softplus_at, step_at _ b (hu b), s3.data]
    rfl
  have hi : ∀ b n, V5 (Proc.devRef .tc main_v43) (ix3 b 0 n) = (data V).inC n := fun b n => by
    subst hV5 hV4
    rw [same_after [main_v43] hostOps0_5 _ hostOps0_5_writes (by decide +kernel) main_v43 (by decide),
      inC_at _ b (hu b), s3.data]
    rfl
  have ho : ∀ b n, V5 (Proc.devRef .tc main_v44) (ix3 b 0 n) = (data V).outC n := fun b n => by
    subst hV5 hV4
    rw [same_after [main_v44] hostOps0_5 _ hostOps0_5_writes (by decide +kernel) main_v44 (by decide),
      outC_at _ b (hu b), s3.data]
    rfl
  have k40 : V5 (Proc.devRef .tc main_v40) = V3 (Proc.devRef .tc main_v40) := by
    subst hV5 hV4
    exact (same_after [main_v40] hostOps0_4 _ hostOps0_4_writes (by decide +kernel)).trans
      (same_after [main_v40] hostOps0_5 _ hostOps0_5_writes (by decide +kernel)) main_v40 (by decide)
  have k8 : V5 (Proc.devRef .tc main_v8) = V0 (Proc.devRef .tc main_v8) := by
    subst hV5 hV4 hV3 hV2 hV1
    exact ((same_after [main_v8] hostOps0_1 _ hostOps0_1_writes (by decide +kernel)).trans <|
      (same_after [main_v8] hostOps0_2 _ hostOps0_2_writes (by decide +kernel)).trans <|
      (same_after [main_v8] hostOps0_3 _ hostOps0_3_writes (by decide +kernel)).trans <|
      (same_after [main_v8] hostOps0_4 _ hostOps0_4_writes (by decide +kernel)).trans <|
      same_after [main_v8] hostOps0_5 _ hostOps0_5_writes (by decide +kernel)) main_v8 (by decide)
  have s6 := same_after [main_v8, main_v40] hostOps0_6 V5 hostOps0_6_writes (by decide +kernel)
  exact
    { z := fun b d => by rw [s6 main_v8 (by decide), k8]; exact hz b d
      u := fun b d => by rw [s6 main_v40 (by decide), k40]; exact hu b d
      scanU := fun b d => by rw [scan_u_at, k40]; exact hu b d
      scanDelta := fun b d => (scan_delta_at V5 b d).trans (hd b d)
      scanIn := fun b n => (scan_inC_at V5 b n).trans (hi b n)
      scanOut := fun b n => (scan_outC_at V5 b n).trans (ho b n)
      state := fun b d n => scan_state_at V5 b d n }

/-! ## Through the scan -/

variable (m : (ℓ : Loc nD τ sig) → Buf (Elt Ideal) ℓ)

/-- One trip keeps the arguments, the gate's half and the scan's input. -/
theorem same_trip (X : Valuation τ sig (Elt Ideal)) : Same loopL X (afterL bodyI (after condOps X)) :=
  (same_after loopL condOps X condOps_writes (by decide +kernel)).trans <|
  (same_after loopL while0Ops0 _ while0Ops0_writes (by decide +kernel)).trans <|
  (same_after loopL while0Ops0_1 _ while0Ops0_1_writes (by decide +kernel)).trans <|
  (same_after loopL while0Ops0_2 _ while0Ops0_2_writes (by decide +kernel)).trans <|
  (same_after loopL while0Ops0_3 _ while0Ops0_3_writes (by decide +kernel)).trans <|
  (same_after loopL while0Ops0_4 _ while0Ops0_4_writes (by decide +kernel)).trans <|
  (same_after loopL while0Ops0_5 _ while0Ops0_5_writes (by decide +kernel)).trans <|
  same_after loopL while0Ops0_6 _ while0Ops0_6_writes (by decide +kernel)

/-- So does any number of trips. -/
theorem same_trips (c : Dev nD) : ∀ k, Same loopL (entryContents preI m c) (atK m k c)
  | 0 => fun _ _ => rfl
  | k + 1 => (same_trips c k).trans (same_trip (atK m k c))

/-- The counter of trip `k`, read as a number. -/
theorem counter_toInt {k : ℕ} (hk : k ≤ 1025) : (Scf.iv 0#32 1#32 k).toInt = k := by
  rw [Scf.toInt_iv (ub := 1025#32) (by decide) (le_trans hk (by decide))]
  simp

/-- After any trip, row 0 of the scan's result is the first scan step. -/
theorem row_at (c : Dev nD) (b : Fin 16) (d : Fin 512) : ∀ k, k < 1025 →
    atK m (k + 1) c (Proc.devRef .tc main_v58_7) (ix3 0 b d) = (data (entryContents preI m c)).scanned d
  | 0, _ => by
    have e := entry (launchContents m c)
    have hw : entryContents preI m c (Proc.devRef .tc main_v58_5) = fun _ => (0#32 : BitVec 32) := ctr_entry m c
    rw [show atK m 1 c (Proc.devRef .tc main_v58_7) = step_main_v58_7 (entryContents preI m c) from
      (trip_agree (entryContents preI m c) main_v58_7 (by decide)).trans (STEP_main_v58_7 _), (same_pre _).data]
    exact trip_writes_row hw b (state_at hw b (e.scanU b) (e.scanDelta b) (e.scanIn b) (e.state b)) (e.scanOut b) d
  | k + 1, hk => by
    rw [show atK m (k + 1 + 1) c (Proc.devRef .tc main_v58_7) = step_main_v58_7 (atK m (k + 1) c) from
      (trip_agree (atK m (k + 1) c) main_v58_7 (by decide)).trans (STEP_main_v58_7 _),
      trip_keeps_row (atK_ctr m c (k + 1)) (by rw [counter_toInt (by omega)]; omega)]
    exact row_at c b d k (by omega)

/-! ## The end -/

/-- The run keeps the arguments. -/
theorem same_final (c : Dev nD) : Same argL (launchContents m c) (finalContents condOps preI bodyI postI 1025 m c) :=
  (same_pre _).trans <|
  ((same_trips m c 1025).mono (by decide)).trans <|
  (same_after argL condOps _ condOps_writes (by decide +kernel)).trans <|
  (same_after argL hostOps0_7 _ skip_writes (by decide +kernel)).trans <|
  (same_after argL hostOps0_8 _ gate_writes (by decide +kernel)).trans <|
  same_after argL hostOps0_9 _ out_writes (by decide +kernel)

/-- From the contents the scan leaves, the last run of its condition and the stretches after it compute the output. -/
theorem tail_at (X : Valuation τ sig (Elt Ideal)) {y : Fin 512 → EReal} (b : Fin 16)
    (hy : ∀ d, X (Proc.devRef .tc main_v58_7) (ix3 0 b d) = y d)
    (hz : ∀ d, X (Proc.devRef .tc main_v8) (ix3 b 0 d) = (data X).z d)
    (hu : ∀ d, X (Proc.devRef .tc main_v40) (ix3 b 0 d) = (data X).u d) (o : Fin 256) :
    afterL postI (after condOps X) (Proc.devRef .tc main_v68) (ix2 b o) = (data X).out y o := by
  have s0 := same_after (main_v58_7 :: loopL) condOps X condOps_writes (by decide +kernel)
  simp only [postI, afterL_cons, afterL_nil]
  generalize after condOps X = X0 at *
  have s1 := same_after (main_v8 :: argL) hostOps0_7 X0 skip_writes (by decide +kernel)
  have hs : ∀ d, after hostOps0_7 X0 (Proc.devRef .tc main_v63) (ix3 b 0 d) = y d + (data X).u d * (data X).skip d :=
    fun d => by
      rw [skip_at X0 (y := y) (u := (data X).u) b (fun d => by rw [s0 main_v58_7 (by decide)]; exact hy d)
        (fun d => by rw [s0 main_v40 (by decide)]; exact hu d), (s0.mono (by decide)).data]
  generalize after hostOps0_7 X0 = X1 at *
  have s2 := same_after (main_v63 :: argL) hostOps0_8 X1 gate_writes (by decide +kernel)
  have hg : ∀ d, after hostOps0_8 X1 (Proc.devRef .tc main_v64) (ix3 b 0 d) = silu ((data X).z d) := fun d => by
    rw [gate_at, s1 main_v8 (by decide), s0 main_v8 (by decide)]
    exact congrArg silu (hz d)
  rw [out_at _ (y := fun d => y d + (data X).u d * (data X).skip d) (g := fun d => silu ((data X).z d)) b (fun d => by rw [s2 main_v63 (by decide)]; exact hs d) hg,
    (((s0.mono (by decide)).trans (s1.mono (by decide))).trans (s2.mono (by decide))).data]
  rfl

/-- The run's result, entry by entry: the class token's output with the scan's first step taken state by state. -/
theorem result_at (c : Dev nD) (b : Fin 16) (o : Fin 256) :
    finalContents condOps preI bodyI postI 1025 m c (Proc.devRef .tc main_v68) (ix2 b o)
      = (data (launchContents m c)).out (data (launchContents m c)).scanned o := by
  have e := entry (launchContents m c)
  have s := same_trips m c 1025
  have hd : data (atK m 1025 c) = data (launchContents m c) := (s.mono (by decide)).data.trans (same_pre _).data
  rw [← hd] at e ⊢
  refine tail_at (atK m 1025 c) b (fun d => ?_) (fun d => ?_) (fun d => ?_) o
  · rw [hd, ← (same_pre (launchContents m c)).data]
    exact row_at m c b d 1024 (by omega)
  · rw [s main_v8 (by decide)]
    exact e.z b d
  · rw [s main_v40 (by decide)]
    exact e.u b d

end Cert.ReferenceIdeal.Row

end
-- ==== Proof.KernelRow.lean ====
/- The array the kernel leaves: every row is the class token's output with the sum over the states taken by itself. -/
module

public import proofs.«01_k».proof.Defs
public import proofs.«01_k».proof.Proof.Row
public import proofs.«01_k».proof.Proof.Gen.KernelIdeal.Value
public import Idealize.ShloMosaic.Lib.StableHlo.ReadAt
public import Idealize.ShloMosaic.Lib.Pointwise
public import Idealize.ShloMosaic.Lib.Pipeline.ValueKit

@[expose] public section

set_option maxRecDepth 16384

noncomputable section

namespace Cert.KernelIdeal.Row

open Idealize.ShloMosaic Idealize.ShloMosaic.TcCoe Idealize.ShloMosaic.StableHlo
open Cert.KernelIdeal.Gen Cert.KernelIdeal.Value
open Cert.Row (Data silu softplus)

/-! ## The body's values at an index, from any blocks -/

/-- The blocks the body reads hold the data `a`. -/
structure Blocks (a : Data) (v0 : Vec Ideal S1x256 .f32) (v2 : Vec Ideal S256x1024 .f32) (v6 v9 : Vec Ideal S1x512 .f32)
    (v14 : Vec Ideal S512x48 .f32) (v19 : Vec Ideal S16x512 .f32) (v21 v46 : Vec Ideal S1x512 .f32)
    (v53 : Vec Ideal S512x256 .f32) : Prop where
  cls : ∀ k, v0 (ix2 0 k) = a.cls k
  win : ∀ k j, v2 (ix2 k j) = a.win k j
  tap : ∀ d, v6 (ix2 0 d) = a.tap d
  cb : ∀ d, v9 (ix2 0 d) = a.cb d
  wx : ∀ d j, v14 (ix2 d j) = a.wx d j
  wdt : ∀ r d, v19 (ix2 r d) = a.wdt r d
  bdt : ∀ d, v21 (ix2 0 d) = a.bdt d
  skip : ∀ d, v46 (ix2 0 d) = a.skip d
  wout : ∀ d o, v53 (ix2 d o) = a.wout d o

section Body

variable {a : Data} {v0 : Vec Ideal S1x256 .f32} {v2 : Vec Ideal S256x1024 .f32} {v6 v9 : Vec Ideal S1x512 .f32}
  {v14 : Vec Ideal S512x48 .f32} {v19 : Vec Ideal S16x512 .f32} {v21 v46 : Vec Ideal S1x512 .f32}
  {v53 : Vec Ideal S512x256 .f32} (h : Blocks a v0 v2 v6 v9 v14 v19 v21 v46 v53)
include h

/-- The gate's half of the projection. -/
theorem Blocks.z (d : Fin 512) : k0_pay3 v0 v2 (ix2 0 d) = a.z d := by
  pointwise [k0_pay3, k0_pay2, h.cls, h.win]
  rfl

/-- The scan's input. -/
theorem Blocks.u (d : Fin 512) : k0_pay4 v0 v2 v6 v9 (ix2 0 d) = a.u d := by
  pointwise [k0_pay4, k0_pay2, h.cls, h.win, h.tap, h.cb]
  rfl

/-- The 48 numbers of the scan. -/
theorem Blocks.dbl (j : Fin 48) : k0_pay5 v0 v2 v6 v9 v14 (ix2 0 j) = a.dbl j := by
  pointwise [k0_pay5, h.wx, h.u]
  rfl

/-- The step size. -/
theorem Blocks.delta (d : Fin 512) : k0_pay6 v0 v2 v6 v9 v14 v19 v21 (ix2 0 d) = a.delta d := by
  pointwise [k0_pay6, h.dbl, h.wdt, h.bdt, zero_sub]
  exact if_neg fun hn => hn rfl

/-- The products of the scan's input and output coefficients. -/
theorem Blocks.bc (n : Fin 16) : k0_pay7 v0 v2 v6 v9 v14 (ix3 0 0 n) = a.inC n * a.outC n := by
  pointwise [k0_pay7, h.dbl]
  rfl

/-- What the body stores. -/
theorem Blocks.stored (b : Fin 16) (o : Fin 256) :
    k0_pay1 (k0_pay3 v0 v2) (k0_pay4 v0 v2 v6 v9) (k0_pay6 v0 v2 v6 v9 v14 v19 v21) (k0_pay7 v0 v2 v6 v9 v14) v46 v53
      (ix2 b o) = a.out a.factored o := by
  pointwise [k0_pay1, h.z, h.u, h.delta, h.bc, h.skip, h.wout]
  simp only [Fin.sum_univ_one, Fin.isValue, h.bc]
  rfl

end Body

/-! ## The array after the run -/

variable (m : (ℓ : Loc nD τ sig) → Buf (Elt Ideal) ℓ)

/-- The data in the kernel's arguments. -/
def data (c : Dev nD) : Data where
  cls k := m (c.tc.loc main_arg1) (ix3 0 0 k)
  win k j := m (c.tc.loc main_arg4) (ix2 k j)
  tap d := m (c.tc.loc main_arg5) (ix2 d 3)
  cb d := m (c.tc.loc main_arg6) (ix1 d)
  wx d j := m (c.tc.loc main_arg7) (ix2 d j)
  wdt r d := m (c.tc.loc main_arg8) (ix2 r d)
  bdt d := m (c.tc.loc main_arg9) (ix1 d)
  skip d := m (c.tc.loc main_arg11) (ix1 d)
  wout d o := m (c.tc.loc main_arg12) (ix2 d o)

/-- A block whose index is zero along every axis starts at the array's first entry. -/
theorem origin {n : ℕ} (f : Fin n → ℕ) (x : Fin n) (s i : ℕ) (hf : f = fun _ => 0) : f x * s + i = i := by
  rw [hf, Nat.zero_mul, Nat.zero_add]

/-- The blocks of the only grid point hold the arguments' data. -/
theorem blocks (c : Dev nD) (t : Fin cfg0.N) :
    Blocks (data m c) (iblk m c 0 t) (iblk m c 1 t) (iblk m c 2 t) (iblk m c 3 t) (iblk m c 4 t) (iblk m c 5 t)
      (iblk m c 6 t) (iblk m c 7 t) (iblk m c 8 t) where
  cls k := by
    blk_simp [iblk]
    rw [show (win0_0.blk t).view.emb (ix2 0 k) = ix2 0 k from funext fun x => Fin.ext (by blk_simp; exact origin _ x _ _ rfl)]
    unfold V
    after_reads_at
    rfl
  win k j := by
    blk_simp [iblk]
    rw [show (win0_1.blk t).view.emb (ix2 k j) = ix2 k j from funext fun x => Fin.ext (by blk_simp; exact origin _ x _ _ rfl)]
    unfold V
    after_reads_at
    rfl
  tap d := by
    blk_simp [iblk]
    rw [show (win0_2.blk t).view.emb (ix2 0 d) = ix2 0 d from funext fun x => Fin.ext (by blk_simp; exact origin _ x _ _ rfl)]
    unfold V
    after_reads_at
    rfl
  cb d := by
    blk_simp [iblk]
    rw [show (win0_3.blk t).view.emb (ix2 0 d) = ix2 0 d from funext fun x => Fin.ext (by blk_simp; exact origin _ x _ _ rfl)]
    unfold V
    after_reads_at
    rfl
  wx d j := by
    blk_simp [iblk]
    rw [show (win0_4.blk t).view.emb (ix2 d j) = ix2 d j from funext fun x => Fin.ext (by blk_simp; exact origin _ x _ _ rfl)]
    unfold V
    after_reads_at
    rfl
  wdt r d := by
    blk_simp [iblk]
    rw [show (win0_5.blk t).view.emb (ix2 r d) = ix2 r d from funext fun x => Fin.ext (by blk_simp; exact origin _ x _ _ rfl)]
    unfold V
    after_reads_at
    rfl
  bdt d := by
    blk_simp [iblk]
    rw [show (win0_6.blk t).view.emb (ix2 0 d) = ix2 0 d from funext fun x => Fin.ext (by blk_simp; exact origin _ x _ _ rfl)]
    unfold V
    after_reads_at
    rfl
  skip d := by
    blk_simp [iblk]
    rw [show (win0_7.blk t).view.emb (ix2 0 d) = ix2 0 d from funext fun x => Fin.ext (by blk_simp; exact origin _ x _ _ rfl)]
    unfold V
    after_reads_at
    rfl
  wout d o := by
    blk_simp [iblk]
    rw [show (win0_8.blk t).view.emb (ix2 d o) = ix2 d o from funext fun x => Fin.ext (by blk_simp; exact origin _ x _ _ rfl)]
    unfold V
    after_reads_at
    rfl

/-- The output array, entry by entry. -/
theorem out_eq (c : Dev nD) :
    (dats m 0 c).arrAt 9 cfg0.N = fun j => (data m c).out (data m c).factored (j 1) := by
  refine (dats m 0 c).arrAt_eq_of_after_last 9 t0_0 (by decide +kernel) _ fun j => ?_
  blk_simp
  rw [after0_9]
  frame_out
  idx_vars j
  exact (blocks m c t0_0).stored _ _

end Cert.KernelIdeal.Row

end
-- ==== Proof.Finite.lean ====
/- The precondition read entry by entry: the entries it speaks of are real numbers. -/
module

public import proofs.«01_k».proof.Defs
public import proofs.«01_k».proof.Proof.Row
public import proofs.«01_k».proof.Proof.KernelRow
public import Idealize.ShloMosaic.Lib.Pointwise

@[expose] public section

set_option maxRecDepth 16384

noncomputable section

namespace Cert.Pre_finite.Row

open Idealize.ShloMosaic Idealize.ShloMosaic.TcCoe
open Cert.Row (IsReal)

/-- The shape facts the precondition states. -/
theorem facts : Cert.Pre_finite.Facts where
  bcast_S_S1x1x256 := by decide
  slices_S256x1024_S256x512_0_0 := by decide
  bcast_S_S256x512 := by decide
  slices_S512x4_S512x1_0_3 := by decide
  shapeCasts_S512x1_S512 := by decide
  bcast_S_S512 := by decide
  bcast_S_S512x48 := by decide
  bcast_S_S16x512 := by decide

/-- The pattern of positive infinity denotes the top of the extended reals. -/
theorem inf_eq : Ideal.ofBits .f32 0x7F800000#32 = ⊤ := by
  simp [Ideal.ofBits, Ideal.ieee]

/-- An extended real whose absolute value is below infinity is real. -/
theorem isReal_of_lt {x : EReal}
    (h : BitVec.ofBool (decide (FloatOps.absf (F := Ideal) (φ := .f32) x < ⊤)) = 1#1) : IsReal x := by
  have hx : max x (-x) < ⊤ := by
    by_contra hn
    have e : decide (FloatOps.absf (F := Ideal) (φ := .f32) x < ⊤) = false := decide_eq_false hn
    rw [e] at h
    exact absurd h (by decide)
  induction x with
  | bot => simp at hx
  | top => simp at hx
  | coe r => exact ⟨r, rfl⟩

variable (m : (ℓ : Loc Cert.KernelIdeal.nD Cert.KernelIdeal.τ Cert.KernelIdeal.sig) → Buf (Elt Ideal) ℓ)

/-- Under the precondition the data of the kernel's arguments are finite. -/
theorem finite (h : Cert.Pre_KernelIdeal_finite (hPre_finite := facts) m) (c : Dev Cert.KernelIdeal.nD) :
    (Cert.KernelIdeal.Row.data m c).Finite := by
  obtain ⟨h1, h4, h5, h6, h7, h8, h9⟩ := h c
  refine ⟨fun k => ?_, fun k d => ?_, fun d => ?_, fun d => ?_, fun d j => ?_, fun r d => ?_, fun d => ?_⟩
  · have e := congrFun h1 (ix3 0 0 k)
    pointwise [Cert.Pre_finite.fn, Cert.Pre_finite.fn_part1, inf_eq] at e
    exact isReal_of_lt e
  · have e := congrFun h4 (ix2 k d)
    pointwise [Cert.Pre_finite.fn, Cert.Pre_finite.fn_part1, inf_eq] at e
    exact isReal_of_lt e
  · have e := congrFun h5 (ix1 d)
    pointwise [Cert.Pre_finite.fn, Cert.Pre_finite.fn_part1, inf_eq] at e
    exact isReal_of_lt e
  · have e := congrFun h6 (ix1 d)
    pointwise [Cert.Pre_finite.fn, Cert.Pre_finite.fn_part1, inf_eq] at e
    exact isReal_of_lt e
  · have e := congrFun h7 (ix2 d j)
    pointwise [Cert.Pre_finite.fn, Cert.Pre_finite.fn_part1, inf_eq] at e
    exact isReal_of_lt e
  · have e := congrFun h8 (ix2 r d)
    pointwise [Cert.Pre_finite.fn, Cert.Pre_finite.fn_part1, inf_eq] at e
    exact isReal_of_lt e
  · have e := congrFun h9 (ix1 d)
    pointwise [Cert.Pre_finite.fn, Cert.Pre_finite.fn_part1, inf_eq] at e
    exact isReal_of_lt e

end Cert.Pre_finite.Row

end
-- ==== Proof.lean ====
/- The certificate: what the three programs leave unchanged, that the kernel read over the extended reals keeps its
   text, and that its result is the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Fold
public import proofs.«01_k».proof.Proof.Finite
public import Idealize.ShloMosaic.Lib.Quiescent
public import Idealize.ShloMosaic.Adequacy
public import Idealize.ShloMosaic.Init

@[expose] public section

set_option maxRecDepth 16384

noncomputable section

namespace Cert.ReferenceIdeal.Row

open Idealize.ShloMosaic Idealize.ShloMosaic.TcCoe Idealize.ShloMosaic.StableHlo Idealize.SL.Sem
open Cert.ReferenceIdeal Cert.ReferenceIdeal.Gen Cert.ReferenceIdeal.Value

variable (m : (ℓ : Loc nD τ sig) → Buf (Elt Ideal) ℓ) (ρ : Dev nD → PrngReg)

/-- The reference runs to the end, leaves its arguments unchanged, and its result's rows are all the scanned
output. -/
theorem run : θ_run (defs (F := Ideal)) (onTc (τ := τ) (main (F := Ideal))) ⟨m, fun _ => 0, ρ⟩ (fun r => ∀ c : Dev nD,
    (∀ b o, r.2.mem (c.tc.loc main_v68) (ix2 b o) = (data (launchContents m c)).out (data (launchContents m c)).scanned o)
    ∧ ∀ a ∈ argL, (Proc.devRef .tc a : DevRef τ sig).isScoped = false → r.2.mem (c.tc.loc a) = m (c.tc.loc a)) :=
  (θ_run _ _ _).mono (fun r h c =>
    ⟨fun b o => (congrFun (h c main_v68 (by decide)) (ix2 b o)).trans (result_at m c b o),
      fun a ha hs => (h c a hs).trans (same_final m c a ha)⟩) (run_fold m ρ)

end Cert.ReferenceIdeal.Row

namespace Cert.Proof

open Idealize.ShloMosaic Idealize.ShloMosaic.TcCoe Idealize.ShloMosaic.StableHlo Idealize.SL.Sem

/-- The reference's frame: its arguments end as they began, every counter at zero. -/
theorem reference_frame : Cert.quiescent_ReferenceIdeal (hReferenceIdeal := Cert.ReferenceIdeal.Gen.facts) := fun m ρ _ =>
  (θ_run _ _ _).mono (fun r h => ⟨fun c => by
    obtain ⟨-, hargs⟩ := h c
    exact ⟨hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide)⟩,
    sem_eq_zero_of_no_sems (by decide) _⟩) (Cert.ReferenceIdeal.Row.run m ρ)

/-- Arguments that agree hold the same data. -/
theorem same_data (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.ReferenceIdeal.Row.data (launchContents m' c) = Cert.KernelIdeal.Row.data m c := by
  unfold Cert.ReferenceIdeal.Row.data Cert.KernelIdeal.Row.data
  congr 1
  · funext k; exact congrFun h1 (ix3 0 0 k)
  · funext k j; exact congrFun h4 (ix2 k j)
  · funext d; exact congrFun h5 (ix2 d 3)
  · funext d; exact congrFun h6 (ix1 d)
  · funext d j; exact congrFun h7 (ix2 d j)
  · funext r d; exact congrFun h8 (ix2 r d)
  · funext d; exact congrFun h9 (ix1 d)
  · funext d; exact congrFun h11 (ix1 d)
  · funext d o; exact congrFun h12 (ix2 d o)

/-- On arguments the precondition holds of, the kernel's result is the reference's. -/
theorem value : Cert.algebraic_KernelIdeal_ReferenceIdeal_pre_finite (hKernelIdeal := Cert.KernelIdeal.Gen.facts)
    (hReferenceIdeal := Cert.ReferenceIdeal.Gen.facts) (hPre_finite := Cert.Pre_finite.Row.facts) := by
  intro m ρ m' ρ' hpre hagree
  refine ⟨fun c => (Cert.KernelIdeal.Gen.dats m 0 c).arrAt 9 Cert.KernelIdeal.cfg0.N, Cert.KernelIdeal.Value.run_blocks m ρ,
    (θ_run _ _ _).mono (fun r h c => ?_) (Cert.ReferenceIdeal.Row.run m' ρ')⟩
  obtain ⟨hv, hargs⟩ := h c
  refine ⟨?_, hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide), hargs _ (by decide) (by decide)⟩
  obtain ⟨-, h1, -, -, h4, h5, h6, h7, h8, h9, -, h11, h12⟩ := hagree c
  refine Eq.trans ?_ (Cert.KernelIdeal.Row.out_eq m c).symm
  funext j
  idx_vars j
  refine (hv _ _).trans ?_
  rw [same_data m m' c h1 h4 h5 h6 h7 h8 h9 h11 h12, ← (Cert.Pre_finite.Row.finite m hpre c).factored_eq]

/-- The certificate. -/
theorem claim : Cert.Claim :=
  ⟨Cert.Kernel.Gen.facts, Cert.KernelIdeal.Gen.facts, Cert.ReferenceIdeal.Gen.facts, Cert.Pre_finite.Row.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial, value⟩

end Cert.Proof

end
